-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x8x8x64 : Shape := ⟨4, ![4096, 8, 8, 64]⟩
abbrev S4096x64x256 : Shape := ⟨3, ![4096, 64, 256]⟩
abbrev S256x1x8x64 : Shape := ⟨4, ![256, 1, 8, 64]⟩
abbrev S256x64x256 : Shape := ⟨3, ![256, 64, 256]⟩
abbrev S256x1x1x64 : Shape := ⟨4, ![256, 1, 1, 64]⟩
abbrev S256x64 : Shape := ⟨2, ![256, 64]⟩
abbrev S256x64x1 : Shape := ⟨3, ![256, 64, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x8x8x64, .f32⟩
  | .hbm, ⟨1, _⟩ => ⟨S4096x64x256, .f32⟩
  | .local _ .vmem, ⟨0, _⟩ => ⟨S256x1x8x64, .f32⟩
  | .local _ .vmem, ⟨1, _⟩ => ⟨S256x1x8x64, .f32⟩
  | .local _ .vmem, ⟨2, _⟩ => ⟨S256x64x256, .f32⟩
  | .local _ .vmem, ⟨3, _⟩ => ⟨S256x64x256, .f32⟩
  | _, _ => ⟨S4096x8x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x8x8x64 : Shape := ⟨4, ![4096, 8, 8, 64]⟩
abbrev S4096x1x1x64 : Shape := ⟨4, ![4096, 1, 1, 64]⟩
abbrev S4096x64 : Shape := ⟨2, ![4096, 64]⟩
abbrev S_ : Shape := ⟨0, ![]⟩
abbrev S4096x64x1 : Shape := ⟨3, ![4096, 64, 1]⟩
abbrev S1x1x256 : Shape := ⟨3, ![1, 1, 256]⟩
abbrev S4096x64x256 : Shape := ⟨3, ![4096, 64, 256]⟩

abbrev nBuf : Space → Nat
  | .hbm => 19
  | .vmem => 0
  | .smem => 0
  | _ => 0

abbrev bufTy : (tb : Table) → Fin (tcTables nBuf tb) → BufTy
  | .hbm, ⟨0, _⟩ => ⟨S4096x8x8x64, .f32⟩
  | .hbm, ⟨1, _⟩ => ⟨S4096x1x1x64, .f32⟩
  | .hbm, ⟨2, _⟩ => ⟨S4096x64, .f32⟩
  | .hbm, ⟨3, _⟩ => ⟨S_, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S4096x64, .f32⟩
  | .hbm, ⟨8, _⟩ => ⟨S4096x64, .f32⟩
  | .hbm, ⟨9, _⟩ => ⟨S_, .f32⟩
  | .hbm, ⟨10, _⟩ => ⟨S4096x64, .f32⟩
  | .hbm, ⟨11, _⟩ => ⟨S4096x64, .f32⟩
  | .hbm, ⟨12, _⟩ => ⟨S4096x64, .i32⟩
  | .hbm, ⟨13, _⟩ => ⟨S4096x64x1, .i32⟩
  | .hbm, ⟨14, _⟩ => ⟨S1x1x256, .i32⟩
  | .hbm, ⟨15, _⟩ => ⟨S4096x64x256, .i32⟩
  | .hbm, ⟨16, _⟩ => ⟨S4096x64x256, .i32⟩
  | .hbm, ⟨17, _⟩ => ⟨S4096x64x256, .i1⟩
  | .hbm, ⟨18, _⟩ => ⟨S4096x64x256, .f32⟩
  | _, _ => ⟨S4096x8x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.OneHot.lean ====
/-
  The mathematics of the one-hot encoding, apart from any program: the level that a pixel value falls on, the entry of
  the encoding at a level, and the two spellings of that entry that a kernel and a host program use.
-/
module

public import Idealize.ShloMosaic.Lib.ValueIdx
public import Idealize.ShloMosaic.Lib.IdealHost
public import Idealize.ShloMosaic.PureOps.Ideal

@[expose] public section

noncomputable section

namespace Cert.OneHot

open Idealize.ShloMosaic Idealize.ShloMosaic.ValueIdx

/-- The level of a value `x`: `255 · x`, truncated to a 32-bit integer. -/
def level (x : Ideal .f32) : BitVec 32 :=
  FloatOps.fptosi (F := Ideal) 32 (FloatOps.mulf x (FloatOps.ofBits .f32 0x437F0000#32))

/-- Entry `k` of the encoding of `x`: one if `k` is the level of `x`, and zero otherwise. -/
def entry (x : Ideal .f32) (k : ℕ) : Ideal .f32 :=
  if level x = BitVec.ofNat 32 k then 1 else 0

/-- The encoding of a batch of 4096 images: at `(b, c, k)` entry `k` for the value at row 3, column 3 and channel `c`
    of image `b`. -/
def encode (img : (⟨4, ![4096, 8, 8, 64]⟩ : Shape).Idx → Ideal .f32) (i : (⟨3, ![4096, 64, 256]⟩ : Shape).Idx) : Ideal .f32 :=
  entry (img (ix4 (i 0) (3 : Fin 8) (3 : Fin 8) (i 1))) (i 2).val

/-- The comparison's bit, read as a number without sign, is one where the words agree and zero elsewhere. -/
theorem uitofp_eq (a b : BitVec 32) :
    FloatOps.uitofp (F := Ideal) .f32 (IntOp.cmpi .eq a b) = if a = b then 1 else 0 := by
  show (((IntOp.cmpi .eq a b).toNat : ℝ) : EReal) = _
  by_cases h : a = b <;> simp [IntOp.cmpi, h]

/-- The same bit, widened to a word and read with its sign, the words compared in the other order. -/
theorem sitofp_widened_eq (a b : BitVec 32) :
    FloatOps.sitofp (F := Ideal) .f32 ((IntOp.cmpi .eq b a).setWidth 32) = if a = b then 1 else 0 := by
  show ((((IntOp.cmpi .eq b a).setWidth 32).toInt : ℝ) : EReal) = _
  by_cases h : a = b
  · subst h; simp [IntOp.cmpi]
  · have h' : (b == a) = false := beq_eq_false_iff_ne.mpr fun e => h e.symm
    simp [IntOp.cmpi, h, h']

/-- Normalising from the interval between 0 and 1 to itself changes nothing: `(x - 0) / 1 = x`, infinities included. -/
theorem normalise (x : Ideal .f32) :
    FloatOps.hostDivf (F := Ideal) (FloatOps.subf x (FloatOps.ofBits .f32 0x00000000#32)) (FloatOps.ofBits .f32 0x3F800000#32) = x := by
  rw [Ideal.hostDivf_def, Ideal.subf_def, Ideal.ofBits_def, Ideal.ofBits_def, Ideal.ofBits_zero_f32, Ideal.ofBits_one_f32]
  show Ideal.div ((x : EReal) - 0) 1 = x
  rw [Ideal.div, if_neg one_ne_zero, sub_zero, inv_one, mul_one]

end Cert.OneHot

end
-- ==== Proof.Block.lean ====
/-
  What the kernel's body computes at one grid point: from a block of 256 images, of which only row 3 is staged, the
  encoding of the values at column 3, read element by element.
-/
module

public import proofs.«01_k».proof.Proof.OneHot
public import proofs.«01_k».proof.Proof.Gen.KernelIdeal.Value
public import Idealize.ShloMosaic.Lib.Pipeline.ValueKit.Geometry
public import Idealize.ShloMosaic.Lib.Pipeline.ValueKit.Tiles

@[expose] public section

noncomputable section

namespace Cert.KernelIdeal.Block

open Cert.KernelIdeal Cert.KernelIdeal.Gen Idealize.ShloMosaic Idealize.ShloMosaic.ValueIdx

/-- The stored payload at `(b, c, k)`: entry `k` for the loaded value of image `b` and channel `c`. -/
theorem payload_apply (v : Vec Ideal S256x1x1x64 .f32) (b : Fin 256) (c : Fin 64) (k : Fin 256) :
    k0_pay1 v (ix3 b c k) = OneHot.entry (v (ix4 b (0 : Fin 1) (0 : Fin 1) c)) k.val := by
  unfold k0_pay1
  dsimp only
  rw [sitofp_apply, extui_apply]
  show FloatOps.sitofp .f32 ((IntOp.cmpi .eq (iota .tc S256x64x256 32 [2] _ (ix3 b c k)) (broadcastTo S256x64x256 _ _ (ix3 b c k))).setWidth 32) = _
  rw [iota_single_apply,
    broadcastTo_apply _ _ _ (ix3 b c (0 : Fin 1)) (fun a => match a with | ⟨0, _⟩ => rfl | ⟨1, _⟩ => rfl | ⟨2, _⟩ => rfl),
    shapeCast_apply _ _ _ (ix2 b c) (by rw [Shape.rowMajor_val_two, Shape.rowMajor_val_three]; show b.val * 64 + c.val = (b.val * 64 + c.val) * 1 + 0; omega)]
  show FloatOps.sitofp .f32 ((IntOp.cmpi .eq (BitVec.ofNat 32 k.val) (OneHot.level (shapeCast S256x64 v _ (ix2 b c)))).setWidth 32) = _
  rw [shapeCast_apply v _ _ (ix4 b (0 : Fin 1) (0 : Fin 1) c)
      (by rw [Shape.rowMajor_val_two, Shape.rowMajor_val_four]; show ((b.val * 1 + 0) * 1 + 0) * 64 + c.val = b.val * 64 + c.val; omega),
    OneHot.sitofp_widened_eq]
  rfl

/-- The output block after the body, at `(b, c, k)`: entry `k` for the staged value of image `b`, at column 3 of its
    one row, and channel `c`. -/
theorem out_apply (x : Vec Ideal S256x1x8x64 .f32) (b : Fin 256) (c : Fin 64) (k : Fin 256) :
    out0_1 x (ix3 b c k) = OneHot.entry (x (ix4 b (0 : Fin 1) (3 : Fin 8) c)) k.val := by
  unfold out0_1
  rw [View.canon_unit_zero (funext fun a => match a with | ⟨0, _⟩ => rfl | ⟨1, _⟩ => rfl | ⟨2, _⟩ => rfl), payload_apply]
  exact congrArg (OneHot.entry · k.val) (View.ld_unit_apply_of x _ _ _ _ (ix4 b (0 : Fin 1) (3 : Fin 8) c)
    (fun a => match a with
      | ⟨0, _⟩ => (Nat.zero_add _).symm | ⟨1, _⟩ => rfl | ⟨2, _⟩ => rfl | ⟨3, _⟩ => (Nat.zero_add _).symm))

end Cert.KernelIdeal.Block

end
-- ==== Proof.KernelValue.lean ====
/-
  What the kernel's result array holds after the run: the 16 blocks of 256 images tile it, and each is its block of the
  encoding of the whole batch.
-/
module

public import proofs.«01_k».proof.Proof.Block

@[expose] public section

noncomputable section

namespace Cert.KernelIdeal.Encoding

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- Where the blocks lie: the input's at row 3 and otherwise at the start, on the same images as the output's. -/
theorem index_facts : ∀ t : Fin cfg0.N, win0_0.index t = ![t.val, 3, 0, 0] ∧ win0_1.index t = ![t.val, 0, 0] :=
  (by decide +kernel : ∀ t : Fin grid0.N, win0_0.index t = ![t.val, 3, 0, 0] ∧ win0_1.index t = ![t.val, 0, 0])

/-- The staged value of image `b`, column `w` and channel `c` at point `t` is the argument's at image `256 t + b`, row 3. -/
theorem staged_apply (c : Dev nD) (t : Fin cfg0.N) (y : S256x1x8x64.Idx) (i : S4096x8x8x64.Idx)
    (h0 : (i 0 : ℕ) = t.val * 256 + (y 0 : ℕ)) (h1 : (i 1 : ℕ) = 3) (h2 : (i 2 : ℕ) = y 2) (h3 : (i 3 : ℕ) = y 3) :
    iblk m c 0 t y = m ((c : Thread nD τ).loc main_arg0) i := by
  show m ((c : Thread nD τ).loc main_arg0) ((win0_0.rect t).emb y) = _
  refine congrArg _ (funext fun a => Fin.ext ?_)
  rw [win0_0.rect_emb_val, (index_facts t).1]
  have hy : (y 1 : ℕ) < 1 := (y 1).isLt
  match a with
  | ⟨0, _⟩ => show t.val * 256 + (y 0 : ℕ) = _; exact h0.symm
  | ⟨1, _⟩ => show 3 * 1 + (y 1 : ℕ) = (i 1 : ℕ); omega
  | ⟨2, _⟩ => show 0 * 8 + (y 2 : ℕ) = (i 2 : ℕ); omega
  | ⟨3, _⟩ => show 0 * 64 + (y 3 : ℕ) = (i 3 : ℕ); omega

/-- The result array after the run is the encoding of the argument. -/
theorem final (c : Dev nD) :
    (dats m 0 c).arrAt 1 cfg0.N = OneHot.encode (m ((c : Thread nD τ).loc main_arg0)) := by
  refine (dats m 0 c).arrAt_eq_of_covers 1 _ (by decide +kernel) fun t _ y => ?_
  blk_simp
  rw [after0_1]
  have e (a : Fin 3) : ((win0_1.rect t).emb y a : ℕ) = win0_1.index t a * win0_1.size a + (y a : ℕ) := win0_1.rect_emb_val t y a
  rw [(index_facts t).2] at e
  obtain ⟨b, ch, k, hy⟩ : ∃ (b : Fin 256) (ch : Fin 64) (k : Fin 256), (y : S256x64x256.Idx) = ix3 b ch k := ⟨_, _, _, eq_ix3 y⟩
  subst hy
  have e0 : ((win0_1.rect t).emb (ix3 b ch k) 0 : ℕ) = t.val * 256 + b.val := e 0
  have e1 : ((win0_1.rect t).emb (ix3 b ch k) 1 : ℕ) = 0 * 64 + ch.val := e 1
  have e2 : ((win0_1.rect t).emb (ix3 b ch k) 2 : ℕ) = 0 * 256 + k.val := e 2
  refine (Block.out_apply _ b ch k).trans ?_
  rw [staged_apply m c t _ (ix4 ((win0_1.rect t).emb (ix3 b ch k) 0) (3 : Fin 8) (3 : Fin 8) ((win0_1.rect t).emb (ix3 b ch k) 1))
    e0 rfl rfl (by rw [zero_mul, zero_add] at e1; exact e1)]
  show _ = OneHot.entry _ ((win0_1.rect t).emb (ix3 b ch k) 2 : ℕ)
  rw [e2, zero_mul, zero_add]
  rfl

/-- The run: it ends with the result array at the encoding of the argument, and the argument unchanged. -/
theorem run : θ_run defs (onTc (τ := τ) (main (F := Ideal))) ⟨m, fun _ => 0, ρ⟩ fun r => ∀ c : Dev nD,
      r.2.mem ((c : Thread nD τ).loc main_v0) = OneHot.encode (m ((c : Thread nD τ).loc main_arg0))
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Encoding

end
-- ==== Proof.RefValue.lean ====
/-
  What the reference's result array holds after the run: the encoding of its argument.
-/
module

public import proofs.«01_k».proof.Proof.OneHot
public import proofs.«01_k».proof.Proof.Gen.ReferenceIdeal.Run
public import proofs.«01_k».proof.Proof.Gen.ReferenceIdeal.Read

@[expose] public section

noncomputable section

namespace Cert.ReferenceIdeal.Encoding

open Cert.ReferenceIdeal Cert.ReferenceIdeal.Gen Cert.ReferenceIdeal.Read Idealize.ShloMosaic Idealize.ShloMosaic.TcCoe Idealize.ShloMosaic.ValueIdx
open Idealize.SL.Sem

variable (m : (ℓ : Loc nD τ sig) → Buf (Elt Ideal) ℓ) (ρ : Dev nD → PrngReg)

/-- The gathered value at `(b, c)` is the argument's at image `b`, row 3, column 3 and channel `c`. -/
theorem gathered_apply (x : S4096x8x8x64.Idx → Ideal .f32) (b : Fin 4096) (c : Fin 64) :
    val_main_v1 (F := Ideal) x (ix2 b c) = x (ix4 b (3 : Fin 8) (3 : Fin 8) c) := by
  rw [val_main_v1_apply, val_main_v0_apply]
  refine congrArg x (funext fun a => Fin.ext ?_)
  have hb := b.isLt
  have hc := c.isLt
  match a with
  | ⟨0, _⟩ => show (b.val * 64 + c.val) / 64 = b.val; omega
  | ⟨1, _⟩ => rfl
  | ⟨2, _⟩ => rfl
  | ⟨3, _⟩ => show (b.val * 64 + c.val) % 64 = c.val; omega

/-- The reference's integer at `(b, c)` is the level of the gathered value. -/
theorem level_apply (x : S4096x8x8x64.Idx → Ideal .f32) (b : Fin 4096) (c : Fin 64) :
    val_main_v8 (F := Ideal) x (ix2 b c) = OneHot.level (x (ix4 b (3 : Fin 8) (3 : Fin 8) c)) := by
  rw [val_main_v8_apply, val_main_v7_apply, val_main_v6_apply, val_main_cst_1_apply, val_main_v5_apply, val_main_v4_apply,
    val_main_cst_0_apply, val_main_v3_apply, val_main_v2_apply, val_main_cst_apply, OneHot.normalise, gathered_apply]
  rfl

/-- The reference's result is the encoding of its argument. -/
theorem value_eq (x : S4096x8x8x64.Idx → Ideal .f32) : val_main_v9 (F := Ideal) x = OneHot.encode x := by
  funext i
  obtain ⟨b, c, k, rfl⟩ : ∃ (b : Fin 4096) (c : Fin 64) (k : Fin 256), i = ix3 b c k := ⟨_, _, _, eq_ix3 i⟩
  rw [val_main_v9_apply, val_main_call0_v4_apply, OneHot.uitofp_eq, val_main_call0_v3_apply, val_main_call0_v1_apply,
    val_main_call0_v2_apply, val_main_call0_v0_apply]
  have e : idx_main_call0_v0 (idx_main_call0_v2 (ix3 b c k)) = ix2 b c :=
    funext fun a => match a with | ⟨0, _⟩ => rfl | ⟨1, _⟩ => rfl
  rw [e, level_apply]
  rfl

/-- The run: it ends with the result array at the encoding of the argument, and the argument unchanged. -/
theorem run : θ_run defs (onTc (τ := τ) (main (F := Ideal))) ⟨m, fun _ => 0, ρ⟩ fun r => ∀ c : Dev nD,
      r.2.mem ((c : Thread nD τ).loc main_v9) = OneHot.encode (m ((c : Thread nD τ).loc main_arg0))
      ∧ r.2.mem ((c : Thread nD τ).loc main_arg0) = m ((c : Thread nD τ).loc main_arg0) :=
  (θ_run defs _ _).mono (fun _ h c => ⟨(h c).1.trans ((val_main_v9_eq _).trans (value_eq _)), (h c).2⟩) (Value.run m ρ)

end Cert.ReferenceIdeal.Encoding

end
-- ==== Proof.lean ====
/-
  The certificate of the one-hot kernel: its frames, that the ideal program is the kernel's own text, and that the
  kernel and the reference compute the same encoding over the extended reals.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Lib.Quiescent

@[expose] public section

noncomputable section

namespace Cert.Proof

open Idealize.ShloMosaic Idealize.SL.Sem

/-- The reference terminates and leaves its argument unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Encoding.run m ρ)

/-- The kernel and the reference end with the same array: the encoding of the argument, on which they agree. -/
theorem algebraic : Cert.algebraic_KernelIdeal_ReferenceIdeal := by
  intro m ρ m' ρ' _ hagree
  refine ⟨_, Cert.KernelIdeal.Encoding.run m ρ, ?_⟩
  refine (θ_run Cert.ReferenceIdeal.defs _ _).mono (fun _ h c => ⟨(h c).1.trans ?_, (h c).2⟩)
    (Cert.ReferenceIdeal.Encoding.run m' ρ')
  exact congrArg OneHot.encode (hagree c)

/-- Everything that is claimed. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference, trivial, algebraic⟩

end Cert.Proof

end
